-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S10000x10000 : Shape := ⟨2, ![10000, 10000]⟩
abbrev S1x128 : Shape := ⟨2, ![1, 128]⟩
abbrev S1 : Shape := ⟨1, ![1]⟩
abbrev S4x200x10000 : Shape := ⟨3, ![4, 200, 10000]⟩
abbrev S4 : Shape := ⟨1, ![4]⟩
abbrev S1x200x10000 : Shape := ⟨3, ![1, 200, 10000]⟩
abbrev S200x10000 : Shape := ⟨2, ![200, 10000]⟩
abbrev S200x128 : Shape := ⟨2, ![200, 128]⟩

abbrev nBuf : Space → Nat
  | .hbm => 11
  | .vmem => 6
  | .smem => 1
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .f32⟩
  | .local _ .vmem, ⟨4, _⟩ => ⟨S10000x128, .f32⟩
  | .local _ .vmem, ⟨5, _⟩ => ⟨S4x200x10000, .f32⟩
  | .local _ .smem, ⟨0, _⟩ => ⟨S1, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_23 : BitVec 32 := 0#32
  let c50_i32 : BitVec 32 := 50#32
  let v28 : BitVec 32 := Scalar.addi c0_i32_23 c50_i32
  let c1_i32_24 : BitVec 32 := 1#32
  ⟨c0_i32_23, v28, c1_i32_24⟩
def k0_off1 (k0_t1 : Fin k0_t1_loop.trips) : Fin 1 → Nat :=
  let c0_i32_23 : BitVec 32 := 0#32
  let c1_i32_24 : BitVec 32 := 1#32
  let arg9 : BitVec 32 := Scf.iv c0_i32_23 c1_i32_24 k0_t1
  let c4_i32 : BitVec 32 := 4#32
  let v29 : BitVec 32 := Scalar.remsi arg9 c4_i32
  ![v29.toNat]
def k0_off2 (k0_t1 : Fin k0_t1_loop.trips) : Fin 3 → Nat :=
  let c0_i32_23 : BitVec 32 := 0#32
  let c1_i32_24 : BitVec 32 := 1#32
  let arg9 : BitVec 32 := Scf.iv c0_i32_23 c1_i32_24 k0_t1
  let c4_i32 : BitVec 32 := 4#32
  let v29 : BitVec 32 := Scalar.remsi arg9 c4_i32
  let c0_i32_27 : BitVec 32 := 0#32
  let c0_i32_28 : BitVec 32 := 0#32
  ![v29.toNat, 0, 0]
def k0_off3 (k0_t1 : Fin k0_t1_loop.trips) : Fin 2 → Nat :=
  let c0_i32_23 : BitVec 32 := 0#32
  let c1_i32_24 : BitVec 32 := 1#32
  let arg9 : BitVec 32 := Scf.iv c0_i32_23 c1_i32_24 k0_t1
  let c200_i32_26 : BitVec 32 := 200#32
  let v30 : BitVec 32 := Scalar.muli arg9 c200_i32_26
  let c0_i32_29 : BitVec 32 := 0#32
  ![v30.toNat, 0]
def k0_off4 (k0_t1 : Fin k0_t1_loop.trips) : Fin 3 → Nat :=
  let c0_i32_23 : BitVec 32 := 0#32
  let c1_i32_24 : BitVec 32 := 1#32
  let arg9 : BitVec 32 := Scf.iv c0_i32_23 c1_i32_24 k0_t1
  let c4_i32 : BitVec 32 := 4#32
  let v29 : BitVec 32 := Scalar.remsi arg9 c4_i32
  let v36 : Index := Scalar.indexCast v29
  let c0_30 : Index := 0#32
  let c0_31 : Index := 0#32
  ![v36.toNat, 0, 0]
def k0_off5 (k0_t1 : Fin k0_t1_loop.trips) : Fin 2 → Nat :=
  let c0_i32_23 : BitVec 32 := 0#32
  let c1_i32_24 : BitVec 32 := 1#32
  let arg9 : BitVec 32 := Scf.iv c0_i32_23 c1_i32_24 k0_t1
  let c200_i32_38 : BitVec 32 := 200#32
  let v50 : BitVec 32 := Scalar.muli arg9 c200_i32_38
  let v51 : Index := Scalar.indexCast v50
  let c0_39 : Index := 0#32
  ![v51.toNat, 0]
def k0_cond1 (k0_t1 : Fin k0_t1_loop.trips) : BitVec 1 :=
  let c0_i32_23 : BitVec 32 := 0#32
  let c1_i32_24 : BitVec 32 := 1#32
  let arg9 : BitVec 32 := Scf.iv c0_i32_23 c1_i32_24 k0_t1
  let c4_i32_40 : BitVec 32 := 4#32
  let v53 : BitVec 32 := Scalar.addi arg9 c4_i32_40
  let c50_i32_41 : BitVec 32 := 50#32
  let v54 : BitVec 1 := Scalar.cmpi .slt v53 c50_i32_41
  let v55 : BitVec 32 := Scalar.extui v54
  let c0_i32_42 : BitVec 32 := 0#32
  let v56 : BitVec 1 := Scalar.cmpi .ne v55 c0_i32_42
  v56

def k0_off6 (k0_t1 : Fin k0_t1_loop.trips) : Fin 1 → Nat :=
  let c0_i32_23 : BitVec 32 := 0#32
  let c1_i32_24 : BitVec 32 := 1#32
  let arg9 : BitVec 32 := Scf.iv c0_i32_23 c1_i32_24 k0_t1
  let c4_i32 : BitVec 32 := 4#32
  let v29 : BitVec 32 := Scalar.remsi arg9 c4_i32
  ![v29.toNat]
def k0_off7 (k0_t1 : Fin k0_t1_loop.trips) : Fin 3 → Nat :=
  let c0_i32_23 : BitVec 32 := 0#32
  let c1_i32_24 : BitVec 32 := 1#32
  let arg9 : BitVec 32 := Scf.iv c0_i32_23 c1_i32_24 k0_t1
  let c4_i32 : BitVec 32 := 4#32
  let v29 : BitVec 32 := Scalar.remsi arg9 c4_i32
  let c0_i32_44 : BitVec 32 := 0#32
  let c0_i32_45 : BitVec 32 := 0#32
  ![v29.toNat, 0, 0]
def k0_off8 (k0_t1 : Fin k0_t1_loop.trips) : Fin 2 → Nat :=
  let c0_i32_23 : BitVec 32 := 0#32
  let c1_i32_24 : BitVec 32 := 1#32
  let arg9 : BitVec 32 := Scf.iv c0_i32_23 c1_i32_24 k0_t1
  let c4_i32_40 : BitVec 32 := 4#32
  let v53 : BitVec 32 := Scalar.addi arg9 c4_i32_40
  let c200_i32_43 : BitVec 32 := 200#32
  let v57 : BitVec 32 := Scalar.muli v53 c200_i32_43
  let c0_i32_46 : BitVec 32 := 0#32
  ![v57.toNat, 0]
abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x10000x128, .f32⟩
  | .hbm, ⟨14, _⟩ => ⟨S1x10000x128, .f32⟩
  | .hbm, ⟨15, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Ring.lean ====
/-
  The ring of four slots, and one trip of the loop.

  The adjacency matrix stays in HBM and is read in fifty blocks of two hundred rows. Block `b` travels through slot
  `b % 4` of the buffer, on that slot's own semaphore. Before trip `k` the blocks `k … k + 3` (those that exist) are on
  their way, one in each slot; every other block is at home. The trip waits for block `k`, multiplies it, stores two hundred
  rows of the result, and sends block `k + 4` (when there is one) into the slot that has just been read.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Ring.Trips
public import Idealize.ShloMosaic.Lib.Tactic

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra beside the counters that the kernel's own transfers ride on. -/
abbrev UU (nD : Nat) (τ : Topo) : Type := UR sig nD τ × Counters
local notation "𝕄" => MT nD τ sig Unit (Elt F) ℕ (UU nD τ) ℕ
/-- No procedure of the program is recursive: no variants. -/
abbrev 𝒱₀ : Variants := Variants.none

/-! ## Names: a block of the matrix, a slot of the buffer, a slot's semaphore -/

/-- The adjacency matrix in HBM. -/
abbrev adjM : Memref sig .tc .hbm S10000x10000 .f32 := Memref.whole main_v1
/-- The projected features, kept in VMEM for the whole run. -/
abbrev ftsM : Memref sig .tc .vmem S10000x128 .f32 := Memref.whole cc0_scratch0
/-- The buffer of four slots. -/
abbrev bufM : Memref sig .tc .vmem S4x200x10000 .f32 := Memref.whole cc0_scratch1

theorem blk_fits (b : Fin 50) : ∀ a, (![200 * b.val, 0] : Fin 2 → Nat) a + S200x10000.size a ≤ S10000x10000.size a := by
  intro a; have := b.isLt; fin_cases a
  · show 200 * b.val + 200 ≤ 10000; omega
  · show 0 + 10000 ≤ 10000; omega
theorem slot_fits (s : Fin 4) : ∀ a, (![s.val, 0, 0] : Fin 3 → Nat) a + S1x200x10000.size a ≤ S4x200x10000.size a := by
  intro a; have := s.isLt; fin_cases a
  · show s.val + 1 ≤ 4; omega
  · show 0 + 200 ≤ 200; omega
  · show 0 + 10000 ≤ 10000; omega
theorem cell_fits (s : Fin 4) : ∀ a, (![s.val] : Fin 1 → Nat) a + S1.size a ≤ S4.size a := by
  intro a; have := s.isLt; fin_cases a; show s.val + 1 ≤ 4; omega
theorem row_fits (b : Fin 50) : ∀ a, (![200 * b.val, 0] : Fin 2 → Nat) a + S200x128.size a ≤ S10000x128.size a := by
  intro a; have := b.isLt; fin_cases a
  · show 200 * b.val + 200 ≤ 10000; omega
  · show 0 + 128 ≤ 128; omega

/-- The offsets of slot `s` in the buffer. -/
abbrev slotOff (s : Fin 4) : Fin 3 → Nat := ![s.val, 0, 0]
instance (s : Fin 4) : ClosedOff (slotOff s) := ⟨slotOff s, rfl⟩

/-- Rows `200 b … 200 b + 199` of the matrix. -/
def blk (b : Fin 50) : Memref sig .tc .hbm S200x10000 .f32 :=
  adjM.slice (Rect.unit (s := S10000x10000) ![200 * b.val, 0] S200x10000.size (blk_fits b)) (fun _ => rfl)
/-- Slot `s` of the buffer. -/
def slot (s : Fin 4) : Memref sig .tc .vmem S200x10000 .f32 :=
  (bufM.slice (Rect.unit (s := S4x200x10000) (slotOff s) S1x200x10000.size (slot_fits s)) (fun _ => rfl)).squeeze S200x10000 squeezes_S1x200x10000_S200x10000
/-- Slot `s`'s semaphore. -/
def cell (s : Fin 4) : DmaSems sig S_ := (cc0_scratch2.slice (Rect.unit (s := S4) ![s.val] S1.size (cell_fits s))).squeeze S_ squeezes_S1_S_
/-- Rows `200 b … 200 b + 199` of the result. -/
abbrev rowsOf (b : Fin 50) : Rect S10000x128 := Rect.unit (s := S10000x128) ![200 * b.val, 0] S200x128.size (row_fits b)

/-! ## The program's slices are those names -/

theorem trips_eq : k0_t1_loop.trips = 50 := by decide +kernel
theorem trip_lt (k : Fin k0_t1_loop.trips) : k.val < 50 := Nat.lt_of_lt_of_eq k.isLt trips_eq

private theorem cell_congr {off : Fin 1 → Nat} {s : Fin 4} (e : off = ![s.val]) (hh) :
    (cc0_scratch2.slice (Rect.unit (s := S4) off S1.size hh)).squeeze S_ squeezes_S1_S_ = cell s :=
  congrArg (fun A : DmaSems sig S1 => A.squeeze S_ squeezes_S1_S_) (SemArray.slice_unit_congr _ e _ _)
private theorem slot_congr {off : Fin 3 → Nat} {s : Fin 4} (e : off = slotOff s) (hh hs) :
    (bufM.slice (Rect.unit (s := S4x200x10000) off S1x200x10000.size hh) hs).squeeze S200x10000 squeezes_S1x200x10000_S200x10000 = slot s :=
  congrArg (fun M : Memref sig .tc .vmem S1x200x10000 .f32 => M.squeeze S200x10000 squeezes_S1x200x10000_S200x10000) (Memref.slice_unit_congr _ e _ _ _ _)
private theorem blk_congr {off : Fin 2 → Nat} {b : Fin 50} (e : off = ![200 * b.val, 0]) (hh hs) :
    adjM.slice (Rect.unit (s := S10000x10000) off S200x10000.size hh) hs = blk b := Memref.slice_unit_congr _ e _ _ _ (fun _ => rfl)

private theorem bk_num {k : ℕ} (h : k < 50) : (Ring.bk 50 k).val = k := Ring.bk_val h
theorem off1_at (k : Fin k0_t1_loop.trips) : k0_off1 k = ![(Ring.sl 4 k.val).val] := by rw [k0_off1_eq, Ring.sl_val]
theorem off2_at (k : Fin k0_t1_loop.trips) : k0_off2 k = slotOff (Ring.sl 4 k.val) := by unfold slotOff; rw [k0_off2_eq, Ring.sl_val]
theorem off3_at (k : Fin k0_t1_loop.trips) : k0_off3 k = ![200 * (Ring.bk 50 k.val).val, 0] := by rw [k0_off3_eq, bk_num (trip_lt k)]
theorem off4_at (k : Fin k0_t1_loop.trips) : k0_off4 k = slotOff (Ring.sl 4 k.val) := by unfold slotOff; rw [k0_off4_eq, Ring.sl_val]
theorem off5_at (k : Fin k0_t1_loop.trips) : k0_off5 k = ![200 * (Ring.bk 50 k.val).val, 0] := by rw [k0_off5_eq, bk_num (trip_lt k)]
theorem off6_at (k : Fin k0_t1_loop.trips) : k0_off6 k = ![(Ring.sl 4 k.val).val] := by rw [k0_off6_eq, Ring.sl_val]
theorem off7_at (k : Fin k0_t1_loop.trips) : k0_off7 k = slotOff (Ring.sl 4 k.val) := by unfold slotOff; rw [k0_off7_eq, Ring.sl_val]
theorem off8_at (k : Fin k0_t1_loop.trips) (h : k.val + 4 < 50) : k0_off8 k = ![200 * (Ring.bk 50 (k.val + 4)).val, 0] := by
  rw [k0_off8_eq, bk_num h]; rfl
/-- The window that trip `k` reads through the whole buffer is the slot that block `k` has landed in. -/
instance (k : Fin k0_t1_loop.trips) : ClosedOff (k0_off4 k) := ⟨slotOff (Ring.sl 4 k.val), off4_at k⟩
instance (k : Fin k0_t1_loop.trips) : ClosedOff (k0_off2 k) := ⟨slotOff (Ring.sl 4 k.val), off2_at k⟩
/-- The guard of the second issue: there is a block `k + 4`. -/
theorem issues (k : Fin k0_t1_loop.trips) : k.val + 4 < 50 → k0_cond1 k = 1#1 := by revert k; decide +kernel
theorem issues_not (k : Fin k0_t1_loop.trips) : ¬ k.val + 4 < 50 → ¬ k0_cond1 k = 1#1 := by revert k; decide +kernel

@[sl_canon] theorem cell_wait (k : Fin k0_t1_loop.trips) (hh) :
    (cc0_scratch2.slice (Rect.unit (s := S4) (k0_off1 k) S1.size hh)).squeeze S_ squeezes_S1_S_ = cell (Ring.sl 4 k.val) := cell_congr (off1_at k) _
@[sl_canon] theorem slot_wait (k : Fin k0_t1_loop.trips) (hh hs) :
    (bufM.slice (Rect.unit (s := S4x200x10000) (k0_off2 k) S1x200x10000.size hh) hs).squeeze S200x10000 squeezes_S1x200x10000_S200x10000 = slot (Ring.sl 4 k.val) :=
  slot_congr (off2_at k) _ _
@[sl_canon] theorem blk_wait (k : Fin k0_t1_loop.trips) (hh hs) :
    adjM.slice (Rect.unit (s := S10000x10000) (k0_off3 k) S200x10000.size hh) hs = blk (Ring.bk 50 k.val) := blk_congr (off3_at k) _ _
@[sl_canon] theorem cell_issue (k : Fin k0_t1_loop.trips) (hh) :
    (cc0_scratch2.slice (Rect.unit (s := S4) (k0_off6 k) S1.size hh)).squeeze S_ squeezes_S1_S_ = cell (Ring.sl 4 k.val) := cell_congr (off6_at k) _
@[sl_canon] theorem slot_issue (k : Fin k0_t1_loop.trips) (hh hs) :
    (bufM.slice (Rect.unit (s := S4x200x10000) (k0_off7 k) S1x200x10000.size hh) hs).squeeze S200x10000 squeezes_S1x200x10000_S200x10000 = slot (Ring.sl 4 k.val) :=
  slot_congr (off7_at k) _ _
@[sl_canon] theorem blk_issue (k : Fin k0_t1_loop.trips) (h : k.val + 4 < 50) (hh hs) :
    adjM.slice (Rect.unit (s := S10000x10000) (k0_off8 k) S200x10000.size hh) hs = blk (Ring.bk 50 (k.val + 4)) := blk_congr (off8_at k h) _ _

/-! ## The pieces -/

section Pieces
variable (c : Dev nD) (X : Buf (Elt F) (adjM.view.loc (c : Thread nD τ)))

/-- Slot `s`'s semaphore at zero. -/
abbrev cellP (s : Fin 4) : sProp 𝕄 := semVal ((c : Thread nD τ), SemLoc.dma (cell s).sem) 0
/-- Slot `s` held at `f`. -/
abbrev slotP (s : Fin 4) (f : Buf (Elt F) ((slot s).view.loc (c : Thread nD τ))) : sProp 𝕄 :=
  (slot s).view.loc (c : Thread nD τ) ↦[(slot s).view.set]{fullShare} f
/-- Block `b` at home. -/
abbrev homeP (b : Fin 50) : sProp 𝕄 := (blk b).view.loc (c : Thread nD τ) ↦[(blk b).view.set]{fullShare} X
/-- Block `b`'s words. -/
abbrev blkV (b : Fin 50) : S200x10000.Idx → Elt F .f32 := ReadAs.same.apply ((blk b).view.read (Elt F) X)
/-- Slot `s` after block `b` has landed over `f`. -/
abbrev landed (s : Fin 4) (b : Fin 50) (f : Buf (Elt F) ((slot s).view.loc (c : Thread nD τ))) : Buf (Elt F) ((slot s).view.loc (c : Thread nD τ)) :=
  (slot s).view.writes (Elt F) f [⟨Rect.whole S200x10000, blkV c X b⟩]
/-- Block `b` on its way to slot `s`, over `f`. -/
abbrev flightP (s : Fin 4) (b : Fin 50) (f : Buf (Elt F) ((slot s).view.loc (c : Thread nD τ))) : sProp 𝕄 :=
  Transfers.Flight countersEmb (c : Thread nD τ) (SemLoc.dma (cell s).sem) () 252800 iprop(slotP c s (landed c X s b f) ∗ homeP c X b)

/-- Slot `p % 4` over `f` before the trip that reads block `p`: the block is on its way, or there is no such block and the slot is free. -/
def roleOver (p : ℕ) (f : Buf (Elt F) ((slot (Ring.sl 4 p)).view.loc (c : Thread nD τ))) : sProp 𝕄 :=
  if p < 50 then flightP c X (Ring.sl 4 p) (Ring.bk 50 p) f else iprop(slotP c (Ring.sl 4 p) f ∗ cellP c (Ring.sl 4 p))
/-- The same over anything. -/
abbrev roleP (p : ℕ) : sProp 𝕄 := iprop(∃ f, roleOver c X p f)

theorem roleP_lt (p : ℕ) (h : p < 50) : roleP c X p = iprop(∃ f, flightP c X (Ring.sl 4 p) (Ring.bk 50 p) f) := by
  unfold roleP roleOver; simp only [if_pos h]
theorem roleP_le (p : ℕ) (h : 50 ≤ p) : roleP c X p = iprop(∃ f, slotP c (Ring.sl 4 p) f ∗ cellP c (Ring.sl 4 p)) := by
  unfold roleP roleOver; simp only [if_neg (Nat.not_lt.mpr h)]

theorem homes_here (k : ℕ) (hk : k + 4 < 50) :
    bigSep (Ring.homeSet 4 k) (homeP c X) = iprop(homeP c X (Ring.bk 50 (k + 4)) ∗ bigSep ((Ring.homeSet 4 k).erase (Ring.bk 50 (k + 4))) (homeP c X)) := by
  conv_lhs => rw [Ring.homeSet_out 4 k hk, bigSep_insert (Ring.bkL_not_mem_erase 4 k)]
  rfl
theorem homes_next (k : ℕ) (hk : k + 4 < 50) :
    bigSep (Ring.homeSet 4 (k + 1)) (homeP c X) = iprop(homeP c X (Ring.bk 50 k) ∗ bigSep ((Ring.homeSet 4 k).erase (Ring.bk 50 (k + 4))) (homeP c X)) := by
  conv_lhs => rw [Ring.homeSet_succ 4 k hk, bigSep_insert (Ring.bk_not_mem_erase 4 k (by omega) (by decide))]
  rfl
theorem homes_tail (k : ℕ) (hk : ¬ k + 4 < 50) (h50 : k < 50) :
    bigSep (Ring.homeSet 4 (k + 1)) (homeP c X) = iprop(homeP c X (Ring.bk 50 k) ∗ bigSep (Ring.homeSet 4 k) (homeP c X)) := by
  conv_lhs => rw [Ring.homeSet_succ_tail 4 k (by omega) h50, bigSep_insert (Ring.bk_not_mem_homeSet 4 k h50 (by decide))]
  rfl

/-- A slot refilled: block `b'` sent over what block `b` left. -/
theorem refill (s : Fin 4) (b b' : Fin 50) :
    flightP c X s b' (landed c X s b (slot s).view.junk)
      = Transfers.Flight countersEmb (c : Thread nD τ) (SemLoc.dma (cell s).sem) () 252800
          iprop(slotP c s ((slot s).view.writes (Elt F) (slot s).view.junk [⟨Rect.whole S200x10000, blkV c X b'⟩, ⟨Rect.whole S200x10000, blkV c X b⟩]) ∗ homeP c X b') := by
  simp only [flightP, landed, slotP, View.writes]

end Pieces

/-! ## One trip -/

section Trip
variable (c : Dev nD) (X : Buf (Elt F) (adjM.view.loc (c : Thread nD τ)))
  (arg0 : Memref sig .tc .vmem S10000x128 .f32) (harg0 : arg0.IsWhole)
  (arg1 : Memref sig .tc .vmem S128x128 .f32) (harg1 : arg1.IsWhole)
  (arg3 : Memref sig .tc .vmem S1x128 .f32) (harg3 : arg3.IsWhole)
  (arg4 : Memref sig .tc .smem S1 .f32) (harg4 : arg4.IsWhole)
  (arg5 : Memref sig .tc .vmem S10000x128 .f32) (harg5 : arg5.IsWhole)
  (al : Elt F .f32)

/-- The result's staging buffer at `fo`, the bias's at `fb`, the projected features at `ff`. -/
abbrev outP (fo : Buf (Elt F) (arg5.view.loc (c : Thread nD τ))) : sProp 𝕄 := arg5.view.loc (c : Thread nD τ) ↦[arg5.view.set]{fullShare} fo
abbrev biasP (fb : Buf (Elt F) (arg3.view.loc (c : Thread nD τ))) : sProp 𝕄 := arg3.view.loc (c : Thread nD τ) ↦[arg3.view.set]{fullShare} fb
abbrev ftsP (ff : Buf (Elt F) (ftsM.view.loc (c : Thread nD τ))) : sProp 𝕄 := ftsM.view.loc (c : Thread nD τ) ↦[ftsM.view.set]{fullShare} ff

variable (fb : Buf (Elt F) (arg3.view.loc (c : Thread nD τ))) (ff : Buf (Elt F) (ftsM.view.loc (c : Thread nD τ)))

/-- What a run holds before trip `k`, the result's buffer at `fo`. -/
def resAt (k : ℕ) (fo : Buf (Elt F) (arg5.view.loc (c : Thread nD τ))) : sProp 𝕄 :=
  iprop(outP c arg5 fo ∗ biasP c arg3 fb ∗ ftsP c ff ∗ (∃ W, owes (c : Thread nD τ) 0 W)
    ∗ bigSep (Ring.homeSet 4 k) (homeP c X)
    ∗ roleP c X k ∗ roleP c X (k + 1) ∗ roleP c X (k + 2) ∗ roleP c X (k + 3))

/-- The loop's body at trip `k`. -/
abbrev tripG (k : Fin k0_t1_loop.trips) : Prog (TpuEff nD τ sig (Elt F) Λ₀ .tc) Unit :=
  k0_t1_body (F := F) arg0 harg0 arg1 harg1 adjM (Memref.isWhole_whole _) arg3 harg3 arg4 harg4 arg5 harg5 ftsM (Memref.isWhole_whole _) bufM (Memref.isWhole_whole _) cc0_scratch2 al k ()

/-- The words that trip `k` reads from its slot: block `k` has just landed there. -/
abbrev slotV (k : Fin k0_t1_loop.trips) : S1x200x10000.Idx → Elt F .f32 :=
  View.readAt (Elt F) bufM.view (Rect.unit (s := S4x200x10000) (k0_off4 k) S1x200x10000.size (k0_off4_inb k)).toLoadRect
    (landed c X (Ring.sl 4 k.val) (Ring.bk 50 k.val) (slot (Ring.sl 4 k.val)).view.junk)
/-- The projected features and the bias as a trip reads them. -/
abbrev ftsV : S10000x128.Idx → Elt F .f32 :=
  View.readAt (Elt F) ftsM.view (Rect.unit (s := S10000x128) ![0, 0] S10000x128.size inb_S10000x128_S10000x128_0_0).toLoadRect ff
abbrev biasV : S1x128.Idx → Elt F .f32 :=
  View.readAt (Elt F) arg3.view (Rect.unit (s := S1x128) ![0, 0] S1x128.size inb_S1x128_S1x128_0_0).toLoadRect fb
/-- The store of trip `k`: two hundred rows of the result. -/
abbrev storeAt (k : Fin k0_t1_loop.trips) (fo : Buf (Elt F) (arg5.view.loc (c : Thread nD τ))) : Buf (Elt F) (arg5.view.loc (c : Thread nD τ)) :=
  arg5.view.writes (Elt F) fo [⟨Rect.unit (s := S10000x128) (k0_off5 k) S200x128.size (k0_off5_inb k), k0_pay2 al (slotV c X k) (ftsV c ff) (biasV c arg3 fb)⟩]

theorem slot_next (k : ℕ) : Ring.sl 4 (k + 1 + 3) = Ring.sl 4 k := Ring.sl_succ_add 4 k 3 rfl

/-- A trip with a block left to send: the slot it has read is on its way again, with block `k + 4`. -/
theorem trip_issue (k : Fin k0_t1_loop.trips) (h : k.val + 4 < 50) (fo : Buf (Elt F) (arg5.view.loc (c : Thread nD τ))) :
    resAt c X arg3 arg5 fb ff k fo ⊢ wp frame (wpE (defs₀ (F := F)) 𝒱₀ (c : Thread nD τ) none) Set.univ (tripG arg0 harg0 arg1 harg1 arg3 harg3 arg4 harg4 arg5 harg5 al k)
        (fun _ => resAt c X arg3 arg5 fb ff (k.val + 1) (storeAt c X arg3 arg5 al fb ff k fo)) := by
  have hc := issues k h
  unfold resAt
  rw [homes_here c X k.val h, homes_next c X k.val h, roleP_lt c X k.val (trip_lt k), roleP_lt c X (k.val + 1 + 3) (by omega), slot_next]
  iintro ⟨HO, HB, HFt, ⟨%W, HW⟩, ⟨Hg, Hrest⟩, ⟨%f0, HF⟩, H1, H2, H3⟩
  dsimp only [tripG]
  sl_unfold [k0_t1_body]
  sl_exec
  unfold trip_issue.sl.v37 trip_issue.sl.dma5
  sl_step
  isplitl [HO]; · iexact HO
  isplitl [HB]; · iexact HB
  isplitl [HFt]; · iexact HFt
  isplitl [HW]; · iexists _; iexact HW
  isplitl [HF_src Hrest]
  · isplitl [HF_src]; · iexact HF_src
    iexact Hrest
  isplitl [H1]; · iexact H1
  isplitl [H2]; · iexact H2
  isplitl [H3]; · iexact H3
  iexists (landed c X (Ring.sl 4 k.val) (Ring.bk 50 k.val) (slot (Ring.sl 4 k.val)).view.junk)
  irw [refill]
  iexact HF

/-- A trip of the last four: nothing is left to send, the slot it has read stays free. -/
theorem trip_last (k : Fin k0_t1_loop.trips) (h : ¬ k.val + 4 < 50) (fo : Buf (Elt F) (arg5.view.loc (c : Thread nD τ))) :
    resAt c X arg3 arg5 fb ff k fo ⊢ wp frame (wpE (defs₀ (F := F)) 𝒱₀ (c : Thread nD τ) none) Set.univ (tripG arg0 harg0 arg1 harg1 arg3 harg3 arg4 harg4 arg5 harg5 al k)
        (fun _ => resAt c X arg3 arg5 fb ff (k.val + 1) (storeAt c X arg3 arg5 al fb ff k fo)) := by
  have hc := issues_not k h
  unfold resAt
  rw [homes_tail c X k.val h (trip_lt k), roleP_lt c X k.val (trip_lt k), roleP_le c X (k.val + 1 + 3) (by omega), slot_next]
  iintro ⟨HO, HB, HFt, ⟨%W, HW⟩, Hrest, ⟨%f0, HF⟩, H1, H2, H3⟩
  dsimp only [tripG]
  sl_unfold [k0_t1_body]
  sl_exec
  unfold trip_last.sl.v37
  sl_step
  isplitl [HO]; · iexact HO
  isplitl [HB]; · iexact HB
  isplitl [HFt]; · iexact HFt
  isplitl [HW]; · iexists _; iexact HW
  isplitl [HF_src Hrest]
  · isplitl [HF_src]; · iexact HF_src
    iexact Hrest
  isplitl [H1]; · iexact H1
  isplitl [H2]; · iexact H2
  isplitl [H3]; · iexact H3
  iexists _
  isplitl [HF_dst]; · iexact HF_dst
  iexact HF

/-- The result's staging buffer before trip `k`, from `o0` at the loop's entry. -/
def outAt (o0 : Buf (Elt F) (arg5.view.loc (c : Thread nD τ))) : ℕ → Buf (Elt F) (arg5.view.loc (c : Thread nD τ))
  | 0 => o0
  | k + 1 => if h : k < k0_t1_loop.trips then storeAt c X arg3 arg5 al fb ff ⟨k, h⟩ (outAt o0 k) else outAt o0 k

theorem outAt_succ (o0 : Buf (Elt F) (arg5.view.loc (c : Thread nD τ))) (k : Fin k0_t1_loop.trips) :
    outAt c X arg3 arg5 al fb ff o0 (k.val + 1) = storeAt c X arg3 arg5 al fb ff k (outAt c X arg3 arg5 al fb ff o0 k.val) := by
  rw [outAt, dif_pos k.isLt]

set_option warn.classDefReducibility false in
/-- The loop's invariant: what the run holds before trip `k`, the rows stored so far in the result's buffer. -/
@[sl_loop] def loopInv (o0 : Buf (Elt F) (arg5.view.loc (c : Thread nD τ))) :
    LoopInvTy_k0_t1 (F := F) Unit ℕ (UU nD τ) ℕ 𝒱₀ c none Set.univ arg0 harg0 arg1 harg1 adjM (Memref.isWhole_whole _) arg3 harg3 arg4 harg4 arg5 harg5
      ftsM (Memref.isWhole_whole _) bufM (Memref.isWhole_whole _) cc0_scratch2 al where
  inv k _ := resAt c X arg3 arg5 fb ff k (outAt c X arg3 arg5 al fb ff o0 k)
  step k _ := by
    rw [outAt_succ]
    by_cases h : k.val + 4 < 50
    · exact trip_issue c X arg0 harg0 arg1 harg1 arg3 harg3 arg4 harg4 arg5 harg5 al fb ff k h _
    · exact trip_last c X arg0 harg0 arg1 harg1 arg3 harg3 arg4 harg4 arg5 harg5 al fb ff k h _

end Trip
end Cert.Proof
end
end
-- ==== Proof.Body.lean ====
/-
  The whole kernel function: four blocks sent, the features projected once, fifty trips, everything back.
-/
module

public import proofs.«01_k».proof.Proof.Ring

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

omit [FloatOps F] in
theorem entails_of_eq {P Q : sProp 𝕄} (e : P = Q) : P ⊢ Q := e ▸ .rfl

/-! ## The literal slices of the first four issues -/

private theorem cell_lit {off : Fin 1 → Nat} {s : Fin 4} (e : off = ![s.val]) (hh) :
    (cc0_scratch2.slice (Rect.unit (s := S4) off S1.size hh)).squeeze S_ squeezes_S1_S_ = cell s :=
  congrArg (fun A : DmaSems sig S1 => A.squeeze S_ squeezes_S1_S_) (SemArray.slice_unit_congr _ e _ _)
private theorem slot_lit {off : Fin 3 → Nat} {s : Fin 4} (e : off = slotOff s) (hh hs) :
    (bufM.slice (Rect.unit (s := S4x200x10000) off S1x200x10000.size hh) hs).squeeze S200x10000 squeezes_S1x200x10000_S200x10000 = slot s :=
  congrArg (fun M : Memref sig .tc .vmem S1x200x10000 .f32 => M.squeeze S200x10000 squeezes_S1x200x10000_S200x10000) (Memref.slice_unit_congr _ e _ _ _ _)
private theorem blk_lit {off : Fin 2 → Nat} {b : Fin 50} (e : off = ![200 * b.val, 0]) (hh hs) :
    adjM.slice (Rect.unit (s := S10000x10000) off S200x10000.size hh) hs = blk b := Memref.slice_unit_congr _ e _ _ _ (fun _ => rfl)

@[sl_canon] theorem cell_0 (hh) : (cc0_scratch2.slice (Rect.unit (s := S4) ![0] S1.size hh)).squeeze S_ squeezes_S1_S_ = cell (Ring.sl 4 0) := cell_lit (by decide) _
@[sl_canon] theorem cell_1 (hh) : (cc0_scratch2.slice (Rect.unit (s := S4) ![1] S1.size hh)).squeeze S_ squeezes_S1_S_ = cell (Ring.sl 4 1) := cell_lit (by decide) _
@[sl_canon] theorem cell_2 (hh) : (cc0_scratch2.slice (Rect.unit (s := S4) ![2] S1.size hh)).squeeze S_ squeezes_S1_S_ = cell (Ring.sl 4 2) := cell_lit (by decide) _
@[sl_canon] theorem cell_3 (hh) : (cc0_scratch2.slice (Rect.unit (s := S4) ![3] S1.size hh)).squeeze S_ squeezes_S1_S_ = cell (Ring.sl 4 3) := cell_lit (by decide) _
@[sl_canon] theorem slot_0 (hh hs) : (bufM.slice (Rect.unit (s := S4x200x10000) ![0, 0, 0] S1x200x10000.size hh) hs).squeeze S200x10000 squeezes_S1x200x10000_S200x10000 = slot (Ring.sl 4 0) := slot_lit (by decide) _ _
@[sl_canon] theorem slot_1 (hh hs) : (bufM.slice (Rect.unit (s := S4x200x10000) ![1, 0, 0] S1x200x10000.size hh) hs).squeeze S200x10000 squeezes_S1x200x10000_S200x10000 = slot (Ring.sl 4 1) := slot_lit (by decide) _ _
@[sl_canon] theorem slot_2 (hh hs) : (bufM.slice (Rect.unit (s := S4x200x10000) ![2, 0, 0] S1x200x10000.size hh) hs).squeeze S200x10000 squeezes_S1x200x10000_S200x10000 = slot (Ring.sl 4 2) := slot_lit (by decide) _ _
@[sl_canon] theorem slot_3 (hh hs) : (bufM.slice (Rect.unit (s := S4x200x10000) ![3, 0, 0] S1x200x10000.size hh) hs).squeeze S200x10000 squeezes_S1x200x10000_S200x10000 = slot (Ring.sl 4 3) := slot_lit (by decide) _ _
@[sl_canon] theorem blk_0 (hh hs) : adjM.slice (Rect.unit (s := S10000x10000) ![0, 0] S200x10000.size hh) hs = blk (Ring.bk 50 0) := blk_lit (by decide) _ _
@[sl_canon] theorem blk_1 (hh hs) : adjM.slice (Rect.unit (s := S10000x10000) ![200, 0] S200x10000.size hh) hs = blk (Ring.bk 50 1) := blk_lit (by decide) _ _
@[sl_canon] theorem blk_2 (hh hs) : adjM.slice (Rect.unit (s := S10000x10000) ![400, 0] S200x10000.size hh) hs = blk (Ring.bk 50 2) := blk_lit (by decide) _ _
@[sl_canon] theorem blk_3 (hh hs) : adjM.slice (Rect.unit (s := S10000x10000) ![600, 0] S200x10000.size hh) hs = blk (Ring.bk 50 3) := blk_lit (by decide) _ _

section Body
variable (c : Dev nD) (X : Buf (Elt F) (adjM.view.loc (c : Thread nD τ)))
  (arg0 : Memref sig .tc .vmem S10000x128 .f32) (harg0 : arg0.IsWhole)
  (arg1 : Memref sig .tc .vmem S128x128 .f32) (harg1 : arg1.IsWhole)
  (arg3 : Memref sig .tc .vmem S1x128 .f32) (harg3 : arg3.IsWhole)
  (arg4 : Memref sig .tc .smem S1 .f32) (harg4 : arg4.IsWhole)
  (arg5 : Memref sig .tc .vmem S10000x128 .f32) (harg5 : arg5.IsWhole)

/-- The kernel function on the given staging buffers, the matrix, the scratch buffers and the semaphores its own. -/
abbrev bodyG : Prog (TpuEff nD τ sig (Elt F) Λ₀ .tc) PUnit :=
  cc0__gcn_kernel arg0 harg0 arg1 harg1 adjM (Memref.isWhole_whole _) arg3 harg3 arg4 harg4 arg5 harg5 ftsM (Memref.isWhole_whole _) bufM (Memref.isWhole_whole _) cc0_scratch2

abbrev seqP (g : Buf (Elt F) (arg0.view.loc (c : Thread nD τ))) : sProp 𝕄 := arg0.view.loc (c : Thread nD τ) ↦[arg0.view.set]{fullShare} g
abbrev wP (g : Buf (Elt F) (arg1.view.loc (c : Thread nD τ))) : sProp 𝕄 := arg1.view.loc (c : Thread nD τ) ↦[arg1.view.set]{fullShare} g
abbrev alphaP (g : Buf (Elt F) (arg4.view.loc (c : Thread nD τ))) : sProp 𝕄 := arg4.view.loc (c : Thread nD τ) ↦[arg4.view.set]{fullShare} g

variable (gs : Buf (Elt F) (arg0.view.loc (c : Thread nD τ))) (gw : Buf (Elt F) (arg1.view.loc (c : Thread nD τ)))
  (gb : Buf (Elt F) (arg3.view.loc (c : Thread nD τ))) (ga : Buf (Elt F) (arg4.view.loc (c : Thread nD τ)))

/-- The slope as the function reads it. -/
abbrev alphaOf : Elt F .f32 :=
  View.readAt (Elt F) arg4.view (Rect.unit (s := S1) ![0] S1.size inb_S1_S1_0).toLoadRect ga (Shape.Idx.first (numel1_S1.symm ▸ Nat.one_pos))
/-- The features and the weights as the function reads them. -/
abbrev seqV : S10000x128.Idx → Elt F .f32 :=
  View.readAt (Elt F) arg0.view (Rect.unit (s := S10000x128) ![0, 0] S10000x128.size inb_S10000x128_S10000x128_0_0).toLoadRect gs
abbrev wV : S128x128.Idx → Elt F .f32 :=
  View.readAt (Elt F) arg1.view (Rect.unit (s := S128x128) ![0, 0] S128x128.size inb_S128x128_S128x128_0_0).toLoadRect gw
/-- The projected features' buffer once they are stored. -/
abbrev ftsOf : Buf (Elt F) (ftsM.view.loc (c : Thread nD τ)) :=
  ftsM.view.writes (Elt F) ftsM.view.junk
    [⟨Rect.unit (s := S10000x128) ![0, 0] S10000x128.size inb_S10000x128_S10000x128_0_0, k0_pay1 (k0_pay3 (seqV c arg0 gs) (wV c arg1 gw))⟩]
/-- The result's buffer after the fifty trips. -/
abbrev outOf (go : Buf (Elt F) (arg5.view.loc (c : Thread nD τ))) : Buf (Elt F) (arg5.view.loc (c : Thread nD τ)) :=
  outAt c X arg3 arg5 (alphaOf c arg4 ga) gb (ftsOf c arg0 arg1 gs gw) go k0_t1_loop.trips

/-- After the last trip the four slots are free, whatever slot the count stopped at. -/
theorem slots_back (T : ℕ) (hT : T = 50) :
    iprop((∃ f, slotP c (Ring.sl 4 T) f ∗ cellP c (Ring.sl 4 T)) ∗ (∃ f, slotP c (Ring.sl 4 (T + 1)) f ∗ cellP c (Ring.sl 4 (T + 1)))
      ∗ (∃ f, slotP c (Ring.sl 4 (T + 2)) f ∗ cellP c (Ring.sl 4 (T + 2))) ∗ (∃ f, slotP c (Ring.sl 4 (T + 3)) f ∗ cellP c (Ring.sl 4 (T + 3))))
      ⊢ (iprop(((∃ f, slotP c 0 f) ∗ (∃ f, slotP c 1 f) ∗ (∃ f, slotP c 2 f) ∗ (∃ f, slotP c 3 f))
        ∗ cellP c 0 ∗ cellP c 1 ∗ cellP c 2 ∗ cellP c 3) : sProp 𝕄) := by
  subst hT
  rw [show Ring.sl 4 50 = 2 by decide, show Ring.sl 4 (50 + 1) = 3 by decide, show Ring.sl 4 (50 + 2) = 0 by decide, show Ring.sl 4 (50 + 3) = 1 by decide]
  iintro ⟨⟨%f2, H2, C2⟩, ⟨%f3, H3, C3⟩, ⟨%f0, H0, C0⟩, ⟨%f1, H1, C1⟩⟩
  isplitl [H0 H1 H2 H3]
  · isplitl [H0]; · iexists _; iexact H0
    isplitl [H1]; · iexists _; iexact H1
    isplitl [H2]; · iexists _; iexact H2
    iexists _; iexact H3
  isplitl [C0]; · iexact C0
  isplitl [C1]; · iexact C1
  isplitl [C2]; · iexact C2
  iexact C3

/-- What the function is handed: its staging buffers, its scratch, the fifty blocks (the first four apart), the slots, the semaphores. -/
abbrev PRE (go : Buf (Elt F) (arg5.view.loc (c : Thread nD τ))) (W : Waits sig Unit) : sProp 𝕄 :=
  iprop(seqP c arg0 gs ∗ wP c arg1 gw ∗ biasP c arg3 gb ∗ alphaP c arg4 ga ∗ outP c arg5 go ∗ (∃ f, ftsP c f)
    ∗ homeP c X (Ring.bk 50 0) ∗ homeP c X (Ring.bk 50 1) ∗ homeP c X (Ring.bk 50 2) ∗ homeP c X (Ring.bk 50 3) ∗ bigSep (Ring.homeSet 4 0) (homeP c X)
    ∗ ((∃ f, slotP c (Ring.sl 4 0) f) ∗ (∃ f, slotP c (Ring.sl 4 1) f) ∗ (∃ f, slotP c (Ring.sl 4 2) f) ∗ (∃ f, slotP c (Ring.sl 4 3) f))
    ∗ (cellP c (Ring.sl 4 0) ∗ cellP c (Ring.sl 4 1) ∗ cellP c (Ring.sl 4 2) ∗ cellP c (Ring.sl 4 3)) ∗ owes (c : Thread nD τ) 0 W)
/-- What it hands back. -/
abbrev POST (go : Buf (Elt F) (arg5.view.loc (c : Thread nD τ))) : sProp 𝕄 :=
  iprop(seqP c arg0 gs ∗ wP c arg1 gw ∗ biasP c arg3 gb ∗ alphaP c arg4 ga ∗ outP c arg5 (outOf c X arg0 arg1 arg3 arg4 arg5 gs gw gb ga go) ∗ (∃ f, ftsP c f)
    ∗ bigSep Finset.univ (homeP c X)
    ∗ (((∃ f, slotP c 0 f) ∗ (∃ f, slotP c 1 f) ∗ (∃ f, slotP c 2 f) ∗ (∃ f, slotP c 3 f)) ∗ cellP c 0 ∗ cellP c 1 ∗ cellP c 2 ∗ cellP c 3)
    ∗ ∃ W, owes (c : Thread nD τ) 0 W)

/-- The run of the kernel function. -/
theorem bodyRun (go : Buf (Elt F) (arg5.view.loc (c : Thread nD τ))) (W) (Q : PUnit → sProp 𝕄) :
    iprop(PRE c X arg0 arg1 arg3 arg4 arg5 gs gw gb ga go W ∗ (POST c X arg0 arg1 arg3 arg4 arg5 gs gw gb ga go -∗ Q ⟨⟩))
      ⊢ wp frame (wpE (defs₀ (F := F)) 𝒱₀ (c : Thread nD τ) none) Set.univ (bodyG arg0 harg0 arg1 harg1 arg3 harg3 arg4 harg4 arg5 harg5) Q := by
  have hhome : Ring.homeSet (NB := 50) 4 (Scf.trips k0_t1_loop.lb k0_t1_loop.ub k0_t1_loop.st) = Finset.univ := Ring.homeSet_last 4 _ trips_eq.ge
  iintro ⟨⟨Hs, Hw, Hb, Ha, HO, ⟨%ff, HFt⟩, Hg0, Hg1, Hg2, Hg3, Hh, ⟨⟨%f0, Hs0⟩, ⟨%f1, Hs1⟩, ⟨%f2, Hs2⟩, ⟨%f3, Hs3⟩⟩, ⟨Hc0, Hc1, Hc2, Hc3⟩, HW⟩, Hk⟩
  sl_exec
  unfold bodyRun.sl.r_2 bodyRun.sl.HFt_1 bodyRun.sl.r
  sl_step
  iapply Hk
  isplitl [Hs]; · iexact Hs
  isplitl [Hw]; · iexact Hw
  isplitl [Hb]; · iexact Hb
  isplitl [Ha]; · iexact Ha
  isplitl [HO]; · iexact HO
  isplitl [HFt]; · iexists _; iexact HFt
  isplitl [Hh]; · iapply (entails_of_eq (congrArg (fun S => bigSep S (homeP c X)) hhome)); iexact Hh
  isplitl [Hc0 Hc1 Hc2 Hc3]
  · iapply (slots_back c _ trips_eq)
    isplitl [Hc0]; · iexists fL1; iexact Hc0
    isplitl [Hc1]; · iexists fL2; iexact Hc1
    isplitl [Hc2]; · iexists fL3; iexact Hc2
    iexists fL4; iexact Hc3
  iexists _; iexact HW

end Body
end Cert.Proof
end
end
-- ==== Proof.Value.lean ====
/-
  WHAT THE STORES LEAVE. Trip `k` reads rows `200 k … 200 k + 199` of the matrix from its slot (`slotV_eq`) and stores
  two hundred rows of the result. After all fifty trips every row of the result's buffer has been stored once, so the
  buffer reads one function of the matrix, the features, the bias and the slope (`outRows`), whatever it held before
  (`read_outOf`).
-/
module

public import proofs.«01_k».proof.Proof.Body
public import Idealize.ShloMosaic.Lib.WritesUnit
public import Idealize.ShloMosaic.Lib.VecWindow
public import Idealize.ShloMosaic.Lib.WholeRead
public import Idealize.ShloMosaic.Lib.ValueLayout

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.ValueIdx

variable {F : FTy → Type} [FloatOps F]

section Value
variable (c : Dev nD) (X : Buf (Elt F) (adjM.view.loc (c : Thread nD τ)))

/-- Row `r` of block `b` of the matrix is its row `200 b + r`. -/
def rowIn (b : Fin 50) (r : Fin 200) : Fin 10000 := ⟨200 * b.val + r.val, by omega⟩

/-- Block `b` of the matrix in the layout a trip reads it in. -/
def rowsAt (b : Fin 50) : S1x200x10000.Idx → Elt F .f32 := fun j =>
  adjM.view.read (Elt F) X (ix2 (rowIn b (j 1)) (j 2))

theorem blk_read (b : Fin 50) (r : Fin 200) (x : Fin 10000) :
    (blk b).view.read (Elt F) X (ix2 r x) = adjM.view.read (Elt F) X (ix2 (rowIn b r) x) := by
  show adjM.view.read (Elt F) X ((Rect.unit (s := S10000x10000) ![200 * b.val, 0] S200x10000.size (blk_fits b)).emb (ix2 r x)) = _
  refine congrArg _ (funext fun a => Fin.ext ?_)
  fin_cases a
  · show 200 * b.val + 1 * r.val = 200 * b.val + r.val; omega
  · show 0 + 1 * x.val = x.val; omega

/-- A load of slot `s` through the whole buffer reads what the slot reads. -/
theorem load_slot (s : Fin 4) {off : Fin 3 → ℕ} (e : off = slotOff s) (inb) (f : bufM.view.ty.Contents (Elt F)) (j : S1x200x10000.Idx) :
    View.readAt (Elt F) bufM.view (Rect.unit (s := S4x200x10000) off S1x200x10000.size inb).toLoadRect f j
      = (slot s).view.read (Elt F) f (ix2 (j 1) (j 2)) := by
  subst e
  have h0 : j 0 = (⟨0, Nat.one_pos⟩ : Fin 1) := Subsingleton.elim (α := Fin 1) _ _
  have hj : j = ix3 (⟨0, Nat.one_pos⟩ : Fin 1) (j 1) (j 2) := (eq_ix3 j).trans (congrArg (fun z => ix3 z (j 1) (j 2)) h0)
  show bufM.view.read (Elt F) f ((Rect.unit (s := S4x200x10000) (slotOff s) S1x200x10000.size inb).emb j)
    = bufM.view.read (Elt F) f ((Rect.unit (s := S4x200x10000) (slotOff s) S1x200x10000.size (slot_fits s)).emb
        (Shape.reshapeEquiv squeezes_S1x200x10000_S200x10000.numel_eq (ix2 (j 1) (j 2))))
  exact congrArg (fun z => bufM.view.read (Elt F) f ((Rect.unit (s := S4x200x10000) (slotOff s) S1x200x10000.size inb).emb z))
    (hj.trans (reshapeEquiv_ix2_1ab (a := 200) (b := 10000) _ (j 1) (j 2)).symm)

/-- Trip `k` finds block `k` of the matrix in its slot. -/
theorem slotV_eq (k : Fin k0_t1_loop.trips) : slotV c X k = rowsAt c X (Ring.bk 50 k.val) :=
  funext fun j =>
    (load_slot (Ring.sl 4 k.val) (off4_at k) (k0_off4_inb k) _ j).trans
      ((congrFun (View.read_writes_whole (slot (Ring.sl 4 k.val)).view _ (blkV c X (Ring.bk 50 k.val))) (ix2 (j 1) (j 2))).trans
        (blk_read c X (Ring.bk 50 k.val) (j 1) (j 2)))

variable (arg3 : Memref sig .tc .vmem S1x128 .f32) (arg5 : Memref sig .tc .vmem S10000x128 .f32)
  (al : Elt F .f32) (fb : Buf (Elt F) (arg3.view.loc (c : Thread nD τ))) (ff : Buf (Elt F) (ftsM.view.loc (c : Thread nD τ)))

/-- The result: row `i` is row `i % 200` of what trip `i / 200` stores. -/
def outRows (ft : S10000x128.Idx → Elt F .f32) (bi : S1x128.Idx → Elt F .f32) : S10000x128.Idx → Elt F .f32 := fun i =>
  have h : (i 0).val < 10000 := (i 0).isLt
  k0_pay2 al (rowsAt c X ⟨(i 0).val / 200, by omega⟩) ft bi (ix2 (⟨(i 0).val % 200, Nat.mod_lt _ (by decide)⟩ : Fin 200) (i 1))

/-- Row `200 b + r` of the result is row `r` of what trip `b` stores. -/
theorem outRows_at (ft : S10000x128.Idx → Elt F .f32) (bi : S1x128.Idx → Elt F .f32) (b : Fin 50) (r : Fin 200) (x : Fin 128) (i : S10000x128.Idx)
    (h0 : (i 0).val = 200 * b.val + r.val) (h1 : (i 1).val = x.val) :
    outRows c X al ft bi i = k0_pay2 al (rowsAt c X b) ft bi (ix2 r x) := by
  have eb : (⟨(i 0).val / 200, by have : (i 0).val < 10000 := (i 0).isLt; omega⟩ : Fin 50) = b := Fin.ext (by show (i 0).val / 200 = b.val; omega)
  have er : (⟨(i 0).val % 200, Nat.mod_lt _ (by decide)⟩ : Fin 200) = r := Fin.ext (by show (i 0).val % 200 = r.val; omega)
  have ex : i 1 = x := Fin.ext h1
  show k0_pay2 al (rowsAt c X ⟨(i 0).val / 200, _⟩) ft bi (ix2 (⟨(i 0).val % 200, _⟩ : Fin 200) (i 1)) = _
  rw [eb, er, ex]

/-- After `T` trips the first `200 T` rows of the result's buffer are the result's. -/
theorem read_outAt (o0 : Buf (Elt F) (arg5.view.loc (c : Thread nD τ))) (T : ℕ) (hT : T ≤ 50) (i : S10000x128.Idx) (hi : (i 0).val < 200 * T) :
    arg5.view.read (Elt F) (outAt c X arg3 arg5 al fb ff o0 T) i = outRows c X al (ftsV c ff) (biasV c arg3 fb) i := by
  induction T with
  | zero => exact absurd hi (Nat.not_lt_zero _)
  | succ T ih =>
    have hk : T < k0_t1_loop.trips := by rw [trips_eq]; omega
    have hb : (Ring.bk 50 T : Fin 50).val = T := Ring.bk_val (trip_lt ⟨T, hk⟩)
    have eo : k0_off5 ⟨T, hk⟩ = ![200 * T, 0] := by rw [off5_at, Ring.bk_val (trip_lt ⟨T, hk⟩)]
    rw [outAt_succ c X arg3 arg5 al fb ff o0 ⟨T, hk⟩]
    by_cases h : (i 0).val < 200 * T
    · exact (View.read_writes_cons_rows_of_not_mem arg5.view _ (k0_off5_inb ⟨T, hk⟩) _ [] i eo rfl (Or.inl h)).trans (ih (by omega) h)
    · have hr : (i 0).val - 200 * T < 200 := by omega
      refine (View.read_writes_cons_rows_of_mem arg5.view _ (k0_off5_inb ⟨T, hk⟩) _ [] i (ix2 (⟨(i 0).val - 200 * T, hr⟩ : Fin 200) (i 1)) eo ?_ rfl).trans ?_
      · show (i 0).val = 200 * T + ((i 0).val - 200 * T); omega
      · rw [slotV_eq]
        exact (outRows_at c X al _ _ (Ring.bk 50 T) ⟨(i 0).val - 200 * T, hr⟩ (i 1) i
          (by rw [hb]; show (i 0).val = 200 * T + ((i 0).val - 200 * T); omega) rfl).symm

section Whole
variable (arg0 : Memref sig .tc .vmem S10000x128 .f32) (arg1 : Memref sig .tc .vmem S128x128 .f32) (arg4 : Memref sig .tc .smem S1 .f32)
  (gs : Buf (Elt F) (arg0.view.loc (c : Thread nD τ))) (gw : Buf (Elt F) (arg1.view.loc (c : Thread nD τ)))
  (gb : Buf (Elt F) (arg3.view.loc (c : Thread nD τ))) (ga : Buf (Elt F) (arg4.view.loc (c : Thread nD τ)))

/-- The trips read back the projected features. -/
theorem ftsV_ftsOf : ftsV c (ftsOf c arg0 arg1 gs gw) = k0_pay1 (k0_pay3 (seqV c arg0 gs) (wV c arg1 gw)) :=
  View.readAt_writes_full ftsM.view _ _ _ _ []

/-- After the run the result's buffer reads the result, whatever it held. -/
theorem read_outOf (go : Buf (Elt F) (arg5.view.loc (c : Thread nD τ))) :
    arg5.view.read (Elt F) (outOf c X arg0 arg1 arg3 arg4 arg5 gs gw gb ga go)
      = outRows c X (alphaOf c arg4 ga) (k0_pay1 (k0_pay3 (seqV c arg0 gs) (wV c arg1 gw))) (biasV c arg3 gb) := by
  funext i
  have hi : (i 0).val < 200 * k0_t1_loop.trips := by rw [trips_eq]; exact (i 0).isLt
  rw [read_outAt c X arg3 arg5 _ gb _ go k0_t1_loop.trips (le_of_eq trips_eq) i hi, ftsV_ftsOf]

end Whole

end Value

end Cert.Proof

end
-- ==== Proof.Parts.lean ====
/-
  THE PARTS OF THE BUFFERS. The matrix is its fifty blocks of two hundred rows, the buffer is its four slots, and the
  kernel's own semaphores are the four slots'. These are the equations that open the launch's resources into what the
  body holds and close them again.
-/
module

public import proofs.«01_k».proof.Proof.Value
public import proofs.«01_k».proof.Proof.Gen.KernelIdeal.Frame
public import Idealize.ShloMosaic.Lib.Ring.AtN

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- The kernel's own semaphores: the four slots'. -/
abbrev osem : Fin 4 → SemLoc sig := fun s => .dma (cell s).sem
theorem ownSemFacts : Pipeline.OwnSemFacts spec0 osem := by decide

/-! ## The matrix is its blocks -/

/-- The elements of block `b`. -/
abbrev blkS (b : Fin 50) : Finset S10000x10000.Idx := (Rect.unit (s := S10000x10000) ![200 * b.val, 0] S200x10000.size (blk_fits b)).set
/-- The elements of slot `s`. -/
abbrev slotS (s : Fin 4) : Finset S4x200x10000.Idx := (Rect.unit (s := S4x200x10000) (slotOff s) S1x200x10000.size (slot_fits s)).set

theorem blk_elems (b : Fin 50) : (blk b).view.set = blkS b := View.set_slice_whole _ _
theorem slot_elems (s : Fin 4) : (slot s).view.set = slotS s := (View.set_reshape _ _).trans (View.set_slice_whole _ _)

theorem mem_blkS (b : Fin 50) (y : S10000x10000.Idx) : y ∈ blkS b ↔ (y 0).val / 200 = b.val := by
  rw [Rect.mem_set_unit]
  have h1 : (y 1).val < 10000 := (y 1).isLt
  constructor
  · intro H
    have h0 : 200 * b.val ≤ (y 0).val ∧ (y 0).val < 200 * b.val + 200 := H 0
    omega
  · intro H a
    fin_cases a
    · show 200 * b.val ≤ (y 0).val ∧ (y 0).val < 200 * b.val + 200; omega
    · show 0 ≤ (y 1).val ∧ (y 1).val < 0 + 10000; omega

theorem mem_slotS (s : Fin 4) (y : S4x200x10000.Idx) : y ∈ slotS s ↔ (y 0).val = s.val := by
  rw [Rect.mem_set_unit]
  have h1 : (y 1).val < 200 := (y 1).isLt
  have h2 : (y 2).val < 10000 := (y 2).isLt
  constructor
  · intro H
    have h0 : s.val ≤ (y 0).val ∧ (y 0).val < s.val + 1 := H 0
    omega
  · intro H a
    fin_cases a
    · show s.val ≤ (y 0).val ∧ (y 0).val < s.val + 1; omega
    · show 0 ≤ (y 1).val ∧ (y 1).val < 0 + 200; omega
    · show 0 ≤ (y 2).val ∧ (y 2).val < 0 + 10000; omega

theorem blkS_disjoint (b b' : Fin 50) (h : b ≠ b') : Disjoint (blkS b) (blkS b') :=
  Finset.disjoint_left.2 fun y hy hy' => h (Fin.ext (((mem_blkS b y).1 hy).symm.trans ((mem_blkS b' y).1 hy')))
theorem slotS_disjoint (s s' : Fin 4) (h : s ≠ s') : Disjoint (slotS s) (slotS s') :=
  Finset.disjoint_left.2 fun y hy hy' => h (Fin.ext (((mem_slotS s y).1 hy).symm.trans ((mem_slotS s' y).1 hy')))
theorem blkS_cover : (Finset.univ : Finset (Fin 50)).biUnion blkS = Finset.univ :=
  Finset.eq_univ_of_forall fun y => Finset.mem_biUnion.2
    ⟨⟨(y 0).val / 200, by have : (y 0).val < 10000 := (y 0).isLt; omega⟩, Finset.mem_univ _, (mem_blkS _ y).2 rfl⟩
theorem slotS_cover : (Finset.univ : Finset (Fin 4)).biUnion slotS = Finset.univ :=
  Finset.eq_univ_of_forall fun y => Finset.mem_biUnion.2
    ⟨⟨(y 0).val, (y 0).isLt⟩, Finset.mem_univ _, (mem_slotS _ y).2 rfl⟩

/-- The whole matrix is its fifty blocks at home. -/
theorem matrix_eq (c : Dev nD) (X : Buf (Elt F) (adjM.view.loc (c : Thread nD τ))) :
    (((c : Thread nD τ).loc main_v1) ↦{fullShare} X : sProp 𝕄) = bigSep Finset.univ (homeP c X) := by
  rw [Ring.pointsTo_blocks (ℓ := (c : Thread nD τ).loc main_v1) blkS blkS_disjoint blkS_cover]
  exact bigSep_congr fun b _ => by rw [← blk_elems]; rfl

/-- The first four blocks apart from the rest. -/
theorem homes_entry (c : Dev nD) (X : Buf (Elt F) (adjM.view.loc (c : Thread nD τ))) :
    bigSep Finset.univ (homeP c X)
      = iprop(homeP c X (Ring.bk 50 0) ∗ homeP c X (Ring.bk 50 1) ∗ homeP c X (Ring.bk 50 2) ∗ homeP c X (Ring.bk 50 3)
          ∗ bigSep (Ring.homeSet 4 0) (homeP c X)) := by
  have e : (Finset.univ : Finset (Fin 50))
      = insert (Ring.bk 50 0) (insert (Ring.bk 50 1) (insert (Ring.bk 50 2) (insert (Ring.bk 50 3) (Ring.homeSet (NB := 50) 4 0)))) := by
    decide +kernel
  rw [e, bigSep_insert (by decide +kernel), bigSep_insert (by decide +kernel), bigSep_insert (by decide +kernel), bigSep_insert (by decide +kernel)]
  rfl

/-! ## The buffer is its slots -/

theorem slotP_eq (c : Dev nD) (s : Fin 4) (f) : slotP c s f = (((c : Thread nD τ).loc cc0_scratch1) ↦[slotS s]{fullShare} f : sProp 𝕄) :=
  congrArg (fun S => (_ ↦[S]{fullShare} f : sProp 𝕄)) (slot_elems s)

/-- The buffer at anything is its four slots at anything, -/
theorem slots_open (c : Dev nD) :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave Hs := (entails_of_eq ((Ring.pointsTo_blocks (Ix := Unit) (Name := ℕ) (U := UU nD τ) (Lvl := ℕ) (q := fullShare) (ℓ := (c : Thread nD τ).loc cc0_scratch1) slotS slotS_disjoint slotS_cover f).trans
    (Ring.bigSep_fin4 _))) $$ H
  icases Hs with ⟨H0, H1, H2, H3⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  iexists f; iapply (entails_of_eq (slotP_eq c 3 f).symm); iexact H3

/-- and back. -/
theorem slots_close (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) slotS slotS_disjoint slotS_cover f0)
  irw [Ring.bigSep_fin4]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  iexists f3; iapply (entails_of_eq (slotP_eq c 3 f3)); iexact H3

omit [FloatOps F] in
/-- The kernel's own semaphores at zero are the four slots'. -/
theorem ownSems_eq (c : Dev nD) :
    (Pipeline.ownSems0 (Ix := Unit) (Name := ℕ) (U := UU nD τ) (Lvl := ℕ) (Val := Elt F) (τ := τ) osem c : sProp 𝕄)
      = iprop(cellP c 0 ∗ cellP c 1 ∗ cellP c 2 ∗ cellP c 3) := by
  unfold Pipeline.ownSems0; rw [Ring.bigSep_fin4]

end Cert.Proof

end
-- ==== Proof.Launch.lean ====
/-
  THE LAUNCH. One grid point stages the features, the weights, the bias and the slope, runs the kernel function, and
  writes the result's staging buffer back; the matrix stays in HBM and is the kernel's own to move. `run_main` is the
  whole program's run, for any float values: the arrays end at the pipeline's contents, every counter at zero.
-/
module

public import proofs.«01_k».proof.Proof.Parts

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-- The matrix as the region finds it. -/
abbrev matX (c : Dev nD) : Buf (Elt F) (adjM.view.loc (c : Thread nD τ)) := V m c main_v1

abbrev st0 (t : Fin cfg0.N) : Memref sig .tc .vmem S10000x128 .f32 := win0_0.stage (cfg0.slots t 0)
abbrev st1 (t : Fin cfg0.N) : Memref sig .tc .vmem S128x128 .f32 := win0_1.stage (cfg0.slots t 1)
abbrev st2 (t : Fin cfg0.N) : Memref sig .tc .vmem S1x128 .f32 := win0_2.stage (cfg0.slots t 2)
abbrev st3 (t : Fin cfg0.N) : Memref sig .tc .smem S1 .f32 := win0_3.stage (cfg0.slots t 3)
abbrev st4 (t : Fin cfg0.N) : Memref sig .tc .vmem S10000x128 .f32 := win0_4.stage (cfg0.slots t 4)

/-- What the run leaves in the result's staging buffer. -/
def result (c : Dev nD) (t : Fin cfg0.N) : S10000x128.Idx → Elt F .f32 :=
  outRows c (matX m c) (alphaOf c (st3 t) ((st3 t).view.rep (iblk m c 3 t)))
    (k0_pay1 (k0_pay3 (seqV c (st0 t) ((st0 t).view.rep (iblk m c 0 t))) (wV c (st1 t) ((st1 t).view.rep (iblk m c 1 t)))))
    (biasV c (st2 t) ((st2 t).view.rep (iblk m c 2 t)))

/-- The region's own resources, the same before and after its one point. -/
abbrev Φ (c : Dev nD) : sProp 𝕄 := Pipeline.ΦD osem spec0 {main_v1} (V m) c

/-- The pipeline's proof data. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m c t
  Φ _ := Φ m c
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = result m c t := by dsimp only [dats]

/-- The region's resources are the features' scratch, the four slots, the four semaphores and the matrix at home. -/
theorem Φ_eq (c : Dev nD) : Φ m c
    = iprop(((∃ f, ftsP c f) ∗ (∃ f : Buf (Elt F) ((c : Thread nD τ).loc cc0_scratch1), ((c : Thread nD τ).loc cc0_scratch1) ↦{fullShare} f))
        ∗ (∃ r, prngReg c r) ∗ (cellP c 0 ∗ cellP c 1 ∗ cellP c 2 ∗ cellP c 3) ∗ bigSep Finset.univ (homeP c (matX m c))) := by
  unfold Φ Pipeline.ΦD
  rw [scopedRest0_eq, ownSems_eq, bigSep_singleton, ← matrix_eq]
  have e : ∀ f : Buf (Elt F) (ftsM.view.loc (c : Thread nD τ)), ftsP c f = (((c : Thread nD τ).loc cc0_scratch0) ↦{fullShare} f : sProp 𝕄) := fun f =>
    congrArg (fun S => (_ ↦[S]{fullShare} f : sProp 𝕄)) (View.set_whole _)
  simp only [e]

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) (st4 t) (hstage0_4 0) :=
  (congrFun defs_tc _).trans rfl

set_option backward.isDefEq.respectTransparency.types false in
/-- The kernel function at the region's one point: the staged inputs unchanged, the result in its staging buffer, the
    region's resources as they were. -/
theorem body_obligation (c : Dev nD) : BodyObligation (dats (F := F) m 0 c) (defs₀ (F := F)) 𝒱₀ () Set.univ := fun t => by
  rw [bigSep_W0, bigSep_W0]
  dsimp only
  simp only [before_0, before_1, before_2, before_3, after_0, after_1, after_2, after_3, after_4]
  rw [show (dats m 0 c).Φ t.castSucc = Φ m c from rfl, show (dats m 0 c).Φ t.succ = Φ m c from rfl, Φ_eq]
  unfold Dat.owesAt Pipeline.owesWithin
  rw [show (dats m 0 c).owed t.castSucc = 0 from rfl, show (dats m 0 c).owed t.succ = 0 from rfl]
  unfold owns
  iintro ⟨⟨⟨HFt, Hbuf⟩, Hr, ⟨Hc0, Hc1, Hc2, Hc3⟩, HM⟩, ⟨%W, -, HW⟩, ⟨%d0, %g0, %h0, H0⟩, ⟨%d1, %g1, %h1, H1⟩, ⟨%d2, %g2, %h2, H2⟩, ⟨%d3, %g3, %h3, H3⟩, ⟨%d4, %go, -, HO⟩⟩
  ihave Hh := (entails_of_eq (homes_entry c (matX m c))) $$ HM
  icases Hh with ⟨Hg0, Hg1, Hg2, Hg3, Hh⟩
  ihave Hs := (slots_open c) $$ Hbuf
  icases Hs with ⟨Hs0, Hs1, Hs2, Hs3⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  rw [h0, h1, h2, h3]
  sl_rw [prog_eq t]
  iapply (bodyRun c (matX m c) (st0 t) (hstage0_0 0) (st1 t) (hstage0_1 0) (st2 t) (hstage0_2 0) (st3 t) (hstage0_3 0) (st4 t) (hstage0_4 0) _ _ _ _ go W)
  isplitl [H0' H1' H2' H3' HO HFt Hg0 Hg1 Hg2 Hg3 Hh Hs0 Hs1 Hs2 Hs3 Hc0 Hc1 Hc2 Hc3 HW]
  · isplitl [H0']; · iexact H0'
    isplitl [H1']; · iexact H1'
    isplitl [H2']; · iexact H2'
    isplitl [H3']; · iexact H3'
    isplitl [HO]; · iexact HO
    isplitl [HFt]; · iexact HFt
    isplitl [Hg0]; · iexact Hg0
    isplitl [Hg1]; · iexact Hg1
    isplitl [Hg2]; · iexact Hg2
    isplitl [Hg3]; · iexact Hg3
    isplitl [Hh]; · iexact Hh
    isplitl [Hs0 Hs1 Hs2 Hs3]
    · isplitl [Hs0]; · iexact Hs0
      isplitl [Hs1]; · iexact Hs1
      isplitl [Hs2]; · iexact Hs2
      iexact Hs3
    isplitl [Hc0 Hc1 Hc2 Hc3]
    · isplitl [Hc0]; · iexact Hc0
      isplitl [Hc1]; · iexact Hc1
      isplitl [Hc2]; · iexact Hc2
      iexact Hc3
    iexact HW
  · iintro ⟨H0, H1, H2, H3, HO, HFt, HM, ⟨Hs, Hc⟩, ⟨%W', HW⟩⟩
    isplitl [HFt Hs Hr Hc HM]
    · isplitl [HFt Hs]
      · isplitl [HFt]; · iexact HFt
        iapply (slots_close c); iexact Hs
      isplitl [Hr]; · iexact Hr
      isplitl [Hc]; · iexact Hc
      iexact HM
    isplitl [HW]
    · iexists W'; isplitr; · ipureintro; exact fun _ _ => Or.inl trivial
      iexact HW
    isplitl [H0]; · iexists _; isplitr; · ipureintro; exact View.read_rep _ _
                    iexact H0
    isplitl [H1]; · iexists _; isplitr; · ipureintro; exact View.read_rep _ _
                    iexact H1
    isplitl [H2]; · iexists _; isplitr; · ipureintro; exact View.read_rep _ _
                    iexact H2
    isplitl [H3]; · iexists _; isplitr; · ipureintro; exact View.read_rep _ _
                    iexact H3
    iexists _; isplitr; · ipureintro; exact read_outOf c (matX m c) (st2 t) (st4 t) (st0 t) (st1 t) (st3 t) _ _ _ _ go
    iexact HO

/-! ## The run -/

/-- The one host operation after the region reads the result's array and writes the program's result. -/
theorem sfx_sub : ∀ ops ∈ ([hostOps1] : List (List (HloOp τ sig (Elt F)))), ∀ op ∈ ops,
    op.bufs ⊆ Pipeline.tailRefsBut sig Pipeline.Prefetch.none spec0 {main_v1} := by
  intro ops hops op hop
  simp only [List.mem_cons, List.mem_nil_iff, or_false] at hops
  rcases hops with rfl
  simp only [hostOps1, List.mem_cons, List.mem_nil_iff, or_false] at hop
  rcases hop with rfl
  unfold Pipeline.tailRefsBut
  intro b hb
  rcases Finset.mem_insert.1 hb with rfl | hb
  · exact Finset.mem_map.2 (⟨main_v4, (by decide : main_v4 ∈ (Finset.univ.image (Pipeline.arrRef spec0) ∪ (Pipeline.restRefsP sig Pipeline.Prefetch.none spec0 \ {main_v1}))), rfl⟩)
  · rw [Finset.mem_singleton] at hb
    subst hb
    exact Finset.mem_map.2 (⟨main_v5, (by decide : main_v5 ∈ (Finset.univ.image (Pipeline.arrRef spec0) ∪ (Pipeline.restRefsP sig Pipeline.Prefetch.none spec0 \ {main_v1}))), rfl⟩)

/-- The program's contents after the last host operation. -/
abbrev W (c : Dev nD) (b : Ref sig .tc) : Buf (Elt F) ((c : Thread nD τ).loc b) := Pipeline.afterTail₀ cfgs (dats m) 0 (V0 m) [hostOps1] c b

set_option backward.isDefEq.respectTransparency.types false in
/-- For any float values, from any memory with zero counters: every weakly fair execution of @main terminates without
    fault, the pipeline's arrays and every other array end at the stated contents, and every counter is zero again. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts {main_v1} (by decide) m ρ main
    (fun c => (body_obligation m c).loose) (fun c => (dats m 0 c).share_full fun _ => rfl) (fun _ _ => rfl)
    (V0 m) [hostOps1] sfx_sub sfx_fresh sfx_keeps
    (Pipeline.hmain_around cfgs 0 defs₀ 𝒱₀ m main [hostOps0] [hostOps1] (by simp only [List.Forall]; exact hostOps0_sub)
      (by simp only [List.Forall]; exact hostOps0_fresh) main_chain)
    (fun _ _ => rfl) (fun c => .rfl) (fun c => .rfl) _ (fun _ h => h)

end Launch

end Cert.Proof

end
-- ==== Proof.Final.lean ====
/-
  WHERE THE RUN ENDS. The arguments are as launched, and the program's result is the result's staging buffer of the one
  point, read in the shape the program returns.
-/
module

public import proofs.«01_k».proof.Proof.Launch
public import Idealize.ShloMosaic.Lib.Claim
public import Idealize.ShloMosaic.Lib.Pipeline.ValueKit

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer that is neither a window's array nor the program's result ends as the region found it. -/
theorem W_of (c : Dev nD) (b : Ref sig .tc) (h5 : b ≠ main_v5) (hw : ∀ w, Pipeline.arrRef spec0 w ≠ b) : W m c b = V m c b := by
  unfold W Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h5)),
    Pipeline.withArrays_of_ne _ c (V0 m c) _ b hw]

/-- The program's result is the result's array after the region, in the shape the program returns. -/
theorem W_result (c : Dev nD) : W m c main_v5 = shapeCast S1x10000x128 ((dats m 0 c).arrAt 4 cfg0.N) shapeCasts_S10000x128_S1x10000x128 := by
  unfold W Pipeline.afterTail₀
  simp only [hostOps1, List.flatten_cons, List.flatten_nil, List.append_nil, StableHlo.after_cons, StableHlo.after_nil]
  rw [StableHlo.reshape_result]
  exact congrArg (fun A : S10000x128.Idx → Elt F .f32 => shapeCast S1x10000x128 A shapeCasts_S10000x128_S1x10000x128)
    (Pipeline.withArrays_arr spec0 launch0.win.arr_inj c (V0 m c) (fun w => (dats m 0 c).arrAt w cfg0.N) 4)

/-- The one grid point. -/
def t₀ : Fin cfg0.N := ⟨0, by decide⟩

/-- The result's array holds what the one grid point left in its window: the window is the whole array. -/
theorem arr_final (c : Dev nD) : (dats m 0 c).arrAt 4 cfg0.N = result m c t₀ := by
  refine (dats m 0 c).arrAt_eq_of_after_last 4 t₀ (by decide +kernel) _ fun j => ?_
  blk_simp
  rw [after_4]

/-- The arguments end as launched. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans ((W_of m c main_arg0 (by decide) (by decide)).trans (V_main_arg0 m c)),
    ((h c).2 main_arg1 (Pipeline.mem_restRefs_of main_arg1 (by decide) (by decide))).trans ((W_of m c main_arg1 (by decide) (by decide)).trans (V_main_arg1 m c)),
    ((h c).1 1).trans (((dats m 0 c).arrAt_in 1 rfl _).trans (V_main_arg2 m c)),
    ((h c).2 main_arg3 (Pipeline.mem_restRefs_of main_arg3 (by decide) (by decide))).trans ((W_of m c main_arg3 (by decide) (by decide)).trans (V_main_arg3 m c)),
    ((h c).2 main_arg4 (Pipeline.mem_restRefs_of main_arg4 (by decide) (by decide))).trans ((W_of m c main_arg4 (by decide) (by decide)).trans (V_main_arg4 m c))⟩

/-- The result ends as what the body stored, in the shape the program returns. -/
theorem result_read (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v5) = shapeCast S1x10000x128 (result m c t₀) shapeCasts_S10000x128_S1x10000x128 :=
  ((h c).2 main_v5 (Pipeline.mem_restRefs_of main_v5 (by decide) (by decide))).trans ((W_result m c).trans (by rw [arr_final]))

end Cert.Proof

end
-- ==== Proof.Entry.lean ====
/-
  WHAT THE KERNEL READS. The staged blocks are whole arrays, and each array at the region's entry is an argument of the
  program in another shape.
-/
module

public import proofs.«01_k».proof.Proof.Final
public import Idealize.ShloMosaic.Lib.Pointwise

@[expose] public section

set_option maxRecDepth 65536

noncomputable section

namespace Cert.Proof

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ)

/-- The arguments as launched: features, matrix, weights, bias, slope. -/
abbrev argS (c : Dev nD) : S1x10000x128.Idx → Elt F .f32 := m ((c : Thread nD τ).loc main_arg0)
abbrev argA (c : Dev nD) : S1x10000x10000.Idx → Elt F .f32 := m ((c : Thread nD τ).loc main_arg1)
abbrev argW (c : Dev nD) : S128x128.Idx → Elt F .f32 := m ((c : Thread nD τ).loc main_arg2)
abbrev argB (c : Dev nD) : S128.Idx → Elt F .f32 := m ((c : Thread nD τ).loc main_arg3)
abbrev argP (c : Dev nD) : S_.Idx → Elt F .f32 := m ((c : Thread nD τ).loc main_arg4)

theorem V_v0 (c : Dev nD) : V m c main_v0 = shapeCast S10000x128 (argS m c) shapeCasts_S1x10000x128_S10000x128 := by entry_read; rfl
theorem V_v1 (c : Dev nD) : V m c main_v1 = shapeCast S10000x10000 (argA m c) shapeCasts_S1x10000x10000_S10000x10000 := by entry_read; rfl
theorem V_v2 (c : Dev nD) : V m c main_v2 = shapeCast S1x128 (argB m c) shapeCasts_S128_S1x128 := by entry_read; rfl
theorem V_v3 (c : Dev nD) : V m c main_v3 = shapeCast S1 (argP m c) shapeCasts_S_S1 := by entry_read; rfl

/-- The staged block of every input is its whole array. -/
theorem block_0 (c : Dev nD) : iblk m c 0 t₀ = V m c main_v0 := by
  funext i; unfold iblk; blk_simp
  refine congrArg (V m c main_v0) (funext fun a => Fin.ext ?_)
  fin_cases a
  · show 0 * 10000 + 1 * (i 0).val = (i 0).val; omega
  · show 0 * 128 + 1 * (i 1).val = (i 1).val; omega
theorem block_1 (c : Dev nD) : iblk m c 1 t₀ = V m c main_arg2 := by
  funext i; unfold iblk; blk_simp
  refine congrArg (V m c main_arg2) (funext fun a => Fin.ext ?_)
  fin_cases a
  · show 0 * 128 + 1 * (i 0).val = (i 0).val; omega
  · show 0 * 128 + 1 * (i 1).val = (i 1).val; omega
theorem block_2 (c : Dev nD) : iblk m c 2 t₀ = V m c main_v2 := by
  funext i; unfold iblk; blk_simp
  refine congrArg (V m c main_v2) (funext fun a => Fin.ext ?_)
  fin_cases a
  · show 0 * 1 + 1 * (i 0).val = (i 0).val; omega
  · show 0 * 128 + 1 * (i 1).val = (i 1).val; omega
theorem block_3 (c : Dev nD) : iblk m c 3 t₀ = V m c main_v3 := by
  funext i; unfold iblk; blk_simp
  refine congrArg (V m c main_v3) (funext fun a => Fin.ext ?_)
  fin_cases a
  · show 0 * 1 + 1 * (i 0).val = (i 0).val; omega

/-- The words the kernel function works on, in the arguments' terms. -/
theorem result_eq (c : Dev nD) : result m c t₀
    = outRows c (V m c main_v1) (V m c main_v3 (Shape.Idx.first (numel1_S1.symm ▸ Nat.one_pos)))
        (k0_pay1 (k0_pay3 (V m c main_v0) (V m c main_arg2))) (V m c main_v2) := by
  unfold result
  rw [show seqV c (st0 t₀) ((st0 t₀).view.rep (iblk m c 0 t₀)) = V m c main_v0 from (View.readAt_rep_full (st0 t₀).view _ _).trans (block_0 m c),
    show wV c (st1 t₀) ((st1 t₀).view.rep (iblk m c 1 t₀)) = V m c main_arg2 from (View.readAt_rep_full (st1 t₀).view _ _).trans (block_1 m c),
    show biasV c (st2 t₀) ((st2 t₀).view.rep (iblk m c 2 t₀)) = V m c main_v2 from (View.readAt_rep_full (st2 t₀).view _ _).trans (block_2 m c),
    show alphaOf c (st3 t₀) ((st3 t₀).view.rep (iblk m c 3 t₀)) = V m c main_v3 (Shape.Idx.first (numel1_S1.symm ▸ Nat.one_pos)) from
      congrFun ((View.readAt_rep_full (st3 t₀).view _ _).trans (block_3 m c)) _]

end Cert.Proof

end
-- ==== Proof.Layer.lean ====
/-
  THE LAYER. One graph convolution over extended reals, entry by entry: project the features of every node, sum them
  over the node's row of the matrix, add the bias, and scale what is not positive by the slope. Both programs are shown
  to compute it.
-/
module

public import Idealize.ShloMosaic.Lib.Pointwise

@[expose] public section

noncomputable section

namespace Cert.Proof

open Idealize.ShloMosaic

variable (S : (⟨3, ![1, 10000, 128]⟩ : Shape).Idx → EReal) (A : (⟨3, ![1, 10000, 10000]⟩ : Shape).Idx → EReal)
  (Wt : (⟨2, ![128, 128]⟩ : Shape).Idx → EReal) (B : (⟨1, ![128]⟩ : Shape).Idx → EReal) (P : (⟨0, ![]⟩ : Shape).Idx → EReal)

/-- Feature `f` of node `k`, projected. -/
def proj (k : Fin 10000) (f : Fin 128) : EReal := ∑ d : Fin 128, S (ix3 (0 : Fin 1) k d) * Wt (ix2 f d)

/-- Feature `f` of node `n`: the projected features summed over the node's row of the matrix, with the bias. -/
def gathered (n : Fin 10000) (f : Fin 128) : EReal := (∑ k : Fin 10000, A (ix3 (0 : Fin 1) n k) * proj S Wt k f) + B (ix1 f)

/-- The layer's output: what is not positive is scaled by the slope. -/
def layer : (⟨3, ![1, 10000, 128]⟩ : Shape).Idx → EReal := fun i =>
  if 0 < gathered S A Wt B (i 1) (i 2) then gathered S A Wt B (i 1) (i 2) else P ix0 * gathered S A Wt B (i 1) (i 2)

end Cert.Proof

end
-- ==== Proof.KernelValue.lean ====
/-
  THE KERNEL COMPUTES THE LAYER. Row `n` of the result is row `n % 200` of what trip `n / 200` stores, and the block that
  trip reads holds row `n` of the matrix there: the blocks' boundaries drop out.
-/
module

public import proofs.«01_k».proof.Proof.Entry
public import proofs.«01_k».proof.Proof.Layer
public import Idealize.ShloMosaic.Lib.Pointwise.IndexBridge

@[expose] public section

set_option maxRecDepth 65536

noncomputable section

namespace Cert.Proof

open Cert.KernelIdeal Cert.KernelIdeal.Gen
open Idealize.ShloMosaic Idealize.ShloMosaic.TcCoe Idealize.ShloMosaic.Tactic

/-- The projection, at an entry. -/
theorem pay3_at (s : Vec Ideal S10000x128 .f32) (w : Vec Ideal S128x128 .f32) (k : Fin 10000) (f : Fin 128) :
    k0_pay1 (k0_pay3 s w) (ix2 k f) = ∑ d : Fin 128, s (ix2 k d) * w (ix2 f d) := by
  unfold k0_pay1 k0_pay3
  pointwise

/-- What a trip stores, at an entry. -/
theorem pay2_at (al : Elt Ideal .f32) (x : Vec Ideal S1x200x10000 .f32) (ft : Vec Ideal S10000x128 .f32) (b : Vec Ideal S1x128 .f32) (r : Fin 200) (f : Fin 128)
    (g : EReal) (hg : (∑ k : Fin 10000, x (ix3 0 r k) * ft (ix2 k f)) + b (ix2 0 f) = g) :
    k0_pay2 al x ft b (ix2 r f) = if 0 < g then g else al * g := by
  subst hg
  unfold k0_pay2
  pointwise

variable (m : (ℓ : Loc nD τ sig) → Buf (Elt Ideal) ℓ)

/-- The block that holds row `n` of the matrix holds it at row `n % 200`. -/
theorem rows_at (c : Dev nD) (n : Fin 10000) (k : Fin 10000) :
    rowsAt c (V m c main_v1) ⟨n.val / 200, by omega⟩ (ix3 (0 : Fin 1) (⟨n.val % 200, Nat.mod_lt _ (by decide)⟩ : Fin 200) k) = argA m c (ix3 (0 : Fin 1) n k) := by
  have e : rowIn ⟨n.val / 200, by omega⟩ (⟨n.val % 200, Nat.mod_lt _ (by decide)⟩ : Fin 200) = n := Fin.ext (Nat.div_add_mod n.val 200)
  have h : rowsAt c (V m c main_v1) ⟨n.val / 200, by omega⟩ (ix3 (0 : Fin 1) (⟨n.val % 200, Nat.mod_lt _ (by decide)⟩ : Fin 200) k)
      = V m c main_v1 (ix2 n k) := by
    refine congrArg (V m c main_v1) ?_
    rw [ix2_eq_valueIdx]
    exact congrArg (fun r : Fin 10000 => ValueIdx.ix2 r k) e
  rw [h, V_v1]
  pointwise

/-- The kernel's result, at an entry. -/
theorem result_at (c : Dev nD) (n : Fin 10000) (f : Fin 128) :
    result m c t₀ (ix2 n f) = layer (argS m c) (argA m c) (argW m c) (argB m c) (argP m c) (ix3 (0 : Fin 1) n f) := by
  have hb : V m c main_v2 (ix2 (0 : Fin 1) f) = argB m c (ix1 f) := by rw [V_v2]; pointwise
  have hp : V m c main_v3 (Shape.Idx.first (numel1_S1.symm ▸ Nat.one_pos)) = argP m c ix0 := by rw [V_v3]; pointwise
  have hf : ∀ k : Fin 10000, k0_pay1 (k0_pay3 (V m c main_v0) (V m c main_arg2)) (ix2 k f) = proj (argS m c) (argW m c) k f := fun k => by
    rw [pay3_at, V_v0, V_main_arg2]
    unfold proj
    pointwise
  have h := pay2_at (V m c main_v3 (Shape.Idx.first (numel1_S1.symm ▸ Nat.one_pos))) (rowsAt c (V m c main_v1) ⟨n.val / 200, by omega⟩)
    (k0_pay1 (k0_pay3 (V m c main_v0) (V m c main_arg2))) (V m c main_v2) ⟨n.val % 200, Nat.mod_lt _ (by decide)⟩ f
    (gathered (argS m c) (argA m c) (argW m c) (argB m c) n f)
    (congrArg₂ (· + ·) (Finset.sum_congr rfl fun k _ => congrArg₂ (· * ·) (rows_at m c n k) (hf k)) hb)
  refine (congrFun (result_eq m c) (ix2 n f)).trans ?_
  refine (outRows_at c _ _ _ _ ⟨n.val / 200, by omega⟩ ⟨n.val % 200, Nat.mod_lt _ (by decide)⟩ f (ix2 n f) (Nat.div_add_mod n.val 200).symm rfl).trans ?_
  rw [ix2_eq_valueIdx] at h
  refine h.trans ?_
  rw [hp]
  rfl

/-- The kernel's result is the layer of its arguments. -/
theorem kernel_layer (c : Dev nD) :
    shapeCast S1x10000x128 (result m c t₀) shapeCasts_S10000x128_S1x10000x128 = layer (argS m c) (argA m c) (argW m c) (argB m c) (argP m c) := by
  funext i
  pointwise
  exact result_at m c (i 1) (i 2)

end Cert.Proof

end
-- ==== Proof.ReferenceValue.lean ====
/-
  THE REFERENCE COMPUTES THE LAYER. Its two products are the projection and the sum over the matrix's row.
-/
module

public import proofs.«01_k».proof.Proof.Layer
public import proofs.«01_k».proof.Proof.Gen.ReferenceIdeal.Run

@[expose] public section

set_option maxRecDepth 65536

noncomputable section

namespace Cert.Proof

open Cert.ReferenceIdeal Cert.ReferenceIdeal.Gen
open Idealize.ShloMosaic Idealize.ShloMosaic.TcCoe Idealize.ShloMosaic.Tactic

variable (S : FVec Ideal S1x10000x128 .f32) (A : FVec Ideal S1x10000x10000 .f32) (Wt : FVec Ideal S128x128 .f32) (B : FVec Ideal S128 .f32) (P : FVec Ideal S_ .f32)

/-- What the reference adds up before the slope. -/
abbrev refSum : FVec Ideal S1x10000x128 .f32 :=
  addf (Host.dotGeneral dot_S1x10000x10000_S1x10000x128_S1x10000x128_2_1_1_2_0_0 none A (Host.dotGeneral dot_S1x10000x128_S128x128_S1x10000x128_2_1_01_0_n_n none S Wt))
    (broadcastInDim S1x10000x128 ![0, 1, 2] bcast_S1x1x128_S1x10000x128_0_1_2 (broadcastInDim S1x1x128 ![2] bcast_S128_S1x1x128_2 B))

/-- It is the gathered features with the bias. -/
theorem refSum_at (i : S1x10000x128.Idx) : refSum S A Wt B i = gathered S A Wt B (i 1) (i 2) := by
  have h0 : i 0 = (0 : Fin 1) := Subsingleton.elim (α := Fin 1) _ _
  unfold gathered proj
  pointwise
  rw [h0]

/-- The reference's result is the layer of its arguments. -/
theorem reference_layer :
    select (cmpf .ogt (refSum S A Wt B) (broadcastInDim S1x10000x128 ![] bcast_S_S1x10000x128 (constant S_ .f32 0x00000000#32)))
      (refSum S A Wt B) (mulf (broadcastInDim S1x10000x128 ![] bcast_S_S1x10000x128 P) (refSum S A Wt B)) = layer S A Wt B P := by
  funext i
  unfold layer
  rw [← refSum_at]
  generalize refSum S A Wt B = g
  pointwise

end Cert.Proof

end
-- ==== Proof.Transfer.lean ====
/-
  THE TWO PRINTINGS ARE ONE PROGRAM. No operation was replaced for the idealization, so the kernel and its idealization
  have the same buffers, the same entry and the same kernel body: what is shown of the one for every reading of the
  floats holds of the other at the bits.
-/
module

public import proofs.«01_k».proof.Defs
public import proofs.«01_k».proof.Proof.Gen.Kernel
public import proofs.«01_k».proof.Proof.Gen.KernelIdeal

@[expose] public section

set_option maxRecDepth 65536

noncomputable section

namespace Cert.Proof

open Idealize.ShloMosaic Idealize.ShloMosaic.TcCoe

/-- The entries agree. -/
theorem main_same : (letI := Cert.Kernel.Gen.facts; Cert.Kernel.main (F := Bits)) = (letI := Cert.KernelIdeal.Gen.facts; Cert.KernelIdeal.main (F := Bits)) := rfl

/-- The launched bodies agree: there is one. -/
theorem bodies_same : (letI := Cert.Kernel.Gen.facts; Cert.Kernel.defs₀ (F := Bits)) = (letI := Cert.KernelIdeal.Gen.facts; Cert.KernelIdeal.defs₀ (F := Bits)) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So do the programs they make. -/
theorem defs_same : (letI := Cert.Kernel.Gen.facts; Cert.Kernel.defs (F := Bits)) = (letI := Cert.KernelIdeal.Gen.facts; Cert.KernelIdeal.defs (F := Bits)) := by
  unfold Cert.Kernel.defs Cert.KernelIdeal.defs
  exact congrArg _ bodies_same

end Cert.Proof

end
-- ==== Proof.lean ====
/-
  THE CERTIFICATE. One graph convolution layer, its matrix streamed through a ring of four slots.

  Every claim about the kernel rests on one run, shown for every reading of the floats (Launch.lean): it terminates, every
  semaphore ends at zero, and the result's rows are what the trips stored. Final.lean reads the arguments and the result
  off the final state, Entry.lean the windows off the arguments; KernelValue.lean and ReferenceValue.lean show both
  results to be the layer of Layer.lean; Transfer.lean carries the run to the kernel at the bits.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.KernelValue
public import proofs.«01_k».proof.Proof.ReferenceValue
public import proofs.«01_k».proof.Proof.Transfer
public import Idealize.ShloMosaic.Adequacy
public import Idealize.ShloMosaic.Init

@[expose] public section

set_option maxRecDepth 65536

noncomputable section

namespace Cert.Proof

open Idealize.ShloMosaic Idealize.ShloMosaic.TcCoe Idealize.SL.Sem

section Kernel

open Cert.KernelIdeal

variable {F : FTy → Type} [FloatOps F]

/-- The kernel's frame, for every reading of the floats: the arguments end as launched and every counter at zero. -/
theorem kernel_frame (m : (ℓ : Loc nD τ sig) → Buf (Elt F) ℓ) (ρ : Dev nD → PrngReg) :
    letI := Cert.KernelIdeal.Gen.facts
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run _ _ _).mono (fun r h => ⟨args_kept m r h.1, h.2⟩) (run_main m ρ)

end Kernel

/-- The kernel at the bits: the same program's frame. -/
theorem quiescent_kernel : Cert.quiescent_Kernel (hKernel := Cert.Kernel.Gen.facts) := fun m g _ => by
  rw [defs_same, main_same]
  exact kernel_frame (F := Bits) m g

/-- The idealized kernel. -/
theorem quiescent_kernelIdeal : Cert.quiescent_KernelIdeal (hKernelIdeal := Cert.KernelIdeal.Gen.facts) :=
  fun m g _ => kernel_frame (F := Ideal) m g

/-- The reference: its run keeps the arguments, and it has no semaphore. -/
theorem quiescent_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Both programs end with the layer of the arguments. -/
theorem both_layer : Cert.algebraic_KernelIdeal_ReferenceIdeal (hKernelIdeal := Cert.KernelIdeal.Gen.facts) (hReferenceIdeal := Cert.ReferenceIdeal.Gen.facts) := by
  intro m g m' g' _ same
  refine ⟨fun c => layer (argS m c) (argA m c) (argW m c) (argB m c) (argP m c), ?_, ?_⟩
  · exact (θ_run _ _ _).mono (fun r h c => ⟨(result_read m r h.1 c).trans (kernel_layer m c), args_kept m r h.1 c⟩) (run_main m g)
  · refine (θ_run _ _ _).mono (fun r h c => ⟨?_, (h c).2⟩) (Cert.ReferenceIdeal.Value.run (F := Ideal) m' g')
    obtain ⟨e0, e1, e2, e3, e4⟩ := same c
    refine (h c).1.trans ((reference_layer _ _ _ _ _).trans ?_)
    rw [e0, e1, e2, e3, e4]

/-- Every claim, at the side conditions the programs state. -/
theorem claim : Cert.Claim :=
  ⟨Cert.Kernel.Gen.facts, Cert.KernelIdeal.Gen.facts, Cert.ReferenceIdeal.Gen.facts, quiescent_kernel, quiescent_kernelIdeal, quiescent_reference, trivial, both_layer⟩

end Cert.Proof

end
